-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_v10) = v2 c
          ∧ r.2.mem ((c.tc : Thread Cert.ReferenceIdeal.nD Cert.ReferenceIdeal.τ).loc Cert.ReferenceIdeal.main_v14) = v3 c
          ∧ r.2.mem ((c.tc : Thread Cert.ReferenceIdeal.nD Cert.ReferenceIdeal.τ).loc Cert.ReferenceIdeal.main_v69) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x2048 : Shape := ⟨2, ![8, 2048]⟩
abbrev S2048x2048 : Shape := ⟨2, ![2048, 2048]⟩
abbrev S_ : Shape := ⟨0, ![]⟩
abbrev S8x512 : Shape := ⟨2, ![8, 512]⟩
abbrev S2048x512 : Shape := ⟨2, ![2048, 512]⟩

abbrev nBuf : Space → Nat
  | .hbm => 13
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S2048x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .i32⟩
  | .hbm, ⟨8, _⟩ => ⟨S8x2048, .f32⟩
  | .hbm, ⟨9, _⟩ => ⟨S2048x2048, .f32⟩
  | .hbm, ⟨10, _⟩ => ⟨S8x2048, .f32⟩
  | .hbm, ⟨11, _⟩ => ⟨S8x2048, .f32⟩
  | .hbm, ⟨12, _⟩ => ⟨S2048x2048, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | .local _ .vmem, ⟨5, _⟩ => ⟨S8x2048, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S2048x512, .f32⟩
  | .local _ .vmem, ⟨11, _⟩ => ⟨S2048x512, .f32⟩
  | .local _ .vmem, ⟨12, _⟩ => ⟨S8x2048, .f32⟩
  | .local _ .vmem, ⟨13, _⟩ => ⟨S8x512, .f32⟩
  | .local _ .vmem, ⟨14, _⟩ => ⟨S8x512, .f32⟩
  | .local _ .vmem, ⟨15, _⟩ => ⟨S2048x512, .f32⟩
  | .local _ .vmem, ⟨16, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x2048 : Shape := ⟨2, ![8, 2048]⟩
abbrev S2048x2048 : Shape := ⟨2, ![2048, 2048]⟩
abbrev S_ : Shape := ⟨0, ![]⟩
abbrev S8x1x2048 : Shape := ⟨3, ![8, 1, 2048]⟩
abbrev S8x2048x1 : Shape := ⟨3, ![8, 2048, 1]⟩
abbrev S8x2048x2048 : Shape := ⟨3, ![8, 2048, 2048]⟩

abbrev nBuf : Space → Nat
  | .hbm => 116
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S2048x2048, .f32⟩
  | .hbm, ⟨3, _⟩ => ⟨S8x2048, .f32⟩
  | .hbm, ⟨4, _⟩ => ⟨S8x2048, .f32⟩
  | .hbm, ⟨5, _⟩ => ⟨S8x2048, .f32⟩
  | .hbm, ⟨6, _⟩ => ⟨S8x2048, .f32⟩
  | .hbm, ⟨7, _⟩ => ⟨S_, .i32⟩
  | .hbm, ⟨8, _⟩ => ⟨S_, .f32⟩
  | .hbm, ⟨9, _⟩ => ⟨S_, .f32⟩
  | .hbm, ⟨10, _⟩ => ⟨S8x2048, .f32⟩
  | .hbm, ⟨11, _⟩ => ⟨S8x2048, .i1⟩
  | .hbm, ⟨12, _⟩ => ⟨S_, .f32⟩
  | .hbm, ⟨13, _⟩ => ⟨S8x2048, .f32⟩
  | .hbm, ⟨14, _⟩ => ⟨S8x2048, .i1⟩
  | .hbm, ⟨15, _⟩ => ⟨S8x2048, .f32⟩
  | .hbm, ⟨16, _⟩ => ⟨S8x2048, .f32⟩
  | .hbm, ⟨17, _⟩ => ⟨S8x2048, .f32⟩
  | .hbm, ⟨18, _⟩ => ⟨S8x2048, .f32⟩
  | .hbm, ⟨19, _⟩ => ⟨S_, .f32⟩
  | .hbm, ⟨20, _⟩ => ⟨S_, .f32⟩
  | .hbm, ⟨21, _⟩ => ⟨S8x2048, .f32⟩
  | .hbm, ⟨22, _⟩ => ⟨S8x2048, .f32⟩
  | .hbm, ⟨23, _⟩ => ⟨S8x2048, .f32⟩
  | .hbm, ⟨24, _⟩ => ⟨S_, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x2048, .f32⟩
  | .hbm, ⟨30, _⟩ => ⟨S8x1x2048, .f32⟩
  | .hbm, ⟨31, _⟩ => ⟨S8x2048x1, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S8x2048x1, .i1⟩
  | .hbm, ⟨36, _⟩ => ⟨S8x1x2048, .i1⟩
  | .hbm, ⟨37, _⟩ => ⟨S8x2048x2048, .i1⟩
  | .hbm, ⟨38, _⟩ => ⟨S8x2048x2048, .i1⟩
  | .hbm, ⟨39, _⟩ => ⟨S8x2048x2048, .i1⟩
  | .hbm, ⟨40, _⟩ => ⟨S_, .f32⟩
  | .hbm, ⟨41, _⟩ => ⟨S8x2048x2048, .f32⟩
  | .hbm, ⟨42, _⟩ => ⟨S8x2048x2048, .i1⟩
  | .hbm, ⟨43, _⟩ => ⟨S8x2048x2048, .i1⟩
  | .hbm, ⟨44, _⟩ => ⟨S_, .f32⟩
  | .hbm, ⟨45, _⟩ => ⟨S8x2048x2048, .f32⟩
  | .hbm, ⟨46, _⟩ => ⟨S8x2048x2048, .i1⟩
  | .hbm, ⟨47, _⟩ => ⟨S8x2048x2048, .i1⟩
  | .hbm, ⟨48, _⟩ => ⟨S_, .f32⟩
  | .hbm, ⟨49, _⟩ => ⟨S_, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S_, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048x2048, .f32⟩
  | .hbm, ⟨59, _⟩ => ⟨S8x2048x2048, .f32⟩
  | .hbm, ⟨60, _⟩ => ⟨S_, .f32⟩
  | .hbm, ⟨61, _⟩ => ⟨S_, .f32⟩
  | .hbm, ⟨62, _⟩ => ⟨S8x2048x2048, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048x2048, .f32⟩
  | .hbm, ⟨67, _⟩ => ⟨S8x2048x2048, .i1⟩
  | .hbm, ⟨68, _⟩ => ⟨S8x2048x2048, .i1⟩
  | .hbm, ⟨69, _⟩ => ⟨S_, .f32⟩
  | .hbm, ⟨70, _⟩ => ⟨S8x2048x2048, .f32⟩
  | .hbm, ⟨71, _⟩ => ⟨S8x2048x2048, .i1⟩
  | .hbm, ⟨72, _⟩ => ⟨S8x2048x2048, .i1⟩
  | .hbm, ⟨73, _⟩ => ⟨S_, .f32⟩
  | .hbm, ⟨74, _⟩ => ⟨S_, .f32⟩
  | .hbm, ⟨75, _⟩ => ⟨S8x2048x2048, .f32⟩
  | .hbm, ⟨76, _⟩ => ⟨S8x2048x2048, .f32⟩
  | .hbm, ⟨77, _⟩ => ⟨S8x2048x2048, .f32⟩
  | .hbm, ⟨78, _⟩ => ⟨S_, .f32⟩
  | .hbm, ⟨79, _⟩ => ⟨S8x2048x2048, .f32⟩
  | .hbm, ⟨80, _⟩ => ⟨S8x2048x2048, .f32⟩
  | .hbm, ⟨81, _⟩ => ⟨S8x2048x2048, .f32⟩
  | .hbm, ⟨82, _⟩ => ⟨S_, .f32⟩
  | .hbm, ⟨83, _⟩ => ⟨S8x2048x2048, .f32⟩
  | .hbm, ⟨84, _⟩ => ⟨S8x2048x2048, .f32⟩
  | .hbm, ⟨85, _⟩ => ⟨S_, .f32⟩
  | .hbm, ⟨86, _⟩ => ⟨S_, .f32⟩
  | .hbm, ⟨87, _⟩ => ⟨S8x2048x2048, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S2048x2048, .f32⟩
  | .hbm, ⟨92, _⟩ => ⟨S_, .f32⟩
  | .hbm, ⟨93, _⟩ => ⟨S2048x2048, .f32⟩
  | .hbm, ⟨94, _⟩ => ⟨S2048x2048, .f32⟩
  | .hbm, ⟨95, _⟩ => ⟨S_, .f32⟩
  | .hbm, ⟨96, _⟩ => ⟨S2048x2048, .f32⟩
  | .hbm, ⟨97, _⟩ => ⟨S2048x2048, .i1⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S2048x2048, .f32⟩
  | .hbm, ⟨102, _⟩ => ⟨S_, .f32⟩
  | .hbm, ⟨103, _⟩ => ⟨S2048x2048, .f32⟩
  | .hbm, ⟨104, _⟩ => ⟨S2048x2048, .f32⟩
  | .hbm, ⟨105, _⟩ => ⟨S2048x2048, .f32⟩
  | .hbm, ⟨106, _⟩ => ⟨S2048x2048, .f32⟩
  | .hbm, ⟨107, _⟩ => ⟨S2048x2048, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S2048x2048, .f32⟩
  | .hbm, ⟨112, _⟩ => ⟨S2048x2048, .f32⟩
  | .hbm, ⟨113, _⟩ => ⟨S_, .f32⟩
  | .hbm, ⟨114, _⟩ => ⟨S2048x2048, .f32⟩
  | .hbm, ⟨115, _⟩ => ⟨S2048x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_v5 : Ref sig .tc := ⟨.hbm, 16, rfl⟩
abbrev main_call1_v0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_call3_v0 : Ref sig .tc := ⟨.hbm, 61, rfl⟩
abbrev main_call3_v1 : Ref sig .tc := ⟨.hbm, 62, rfl⟩
abbrev main_v39 : Ref sig .tc := ⟨.hbm, 63, rfl⟩
abbrev main_v40 : Ref sig .tc := ⟨.hbm, 64, rfl⟩
abbrev main_cst_9 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_call4_v0 : Ref sig .tc := ⟨.hbm, 74, rfl⟩
abbrev main_call4_v1 : Ref sig .tc := ⟨.hbm, 75, rfl⟩
abbrev main_v47 : Ref sig .tc := ⟨.hbm, 76, rfl⟩
abbrev main_v48 : Ref sig .tc := ⟨.hbm, 77, rfl⟩
abbrev main_cst_12 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_13 : Ref sig .tc := ⟨.hbm, 82, rfl⟩
abbrev main_v52 : Ref sig .tc := ⟨.hbm, 83, rfl⟩
abbrev main_v53 : Ref sig .tc := ⟨.hbm, 84, rfl⟩
abbrev main_cst_14 : Ref sig .tc := ⟨.hbm, 85, rfl⟩
abbrev main_call5_v0 : Ref sig .tc := ⟨.hbm, 86, rfl⟩
abbrev main_call5_v1 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_cst_16 : Ref sig .tc := ⟨.hbm, 92, rfl⟩
abbrev main_v57 : Ref sig .tc := ⟨.hbm, 93, rfl⟩
abbrev main_v58 : Ref sig .tc := ⟨.hbm, 94, rfl⟩
abbrev main_cst_17 : Ref sig .tc := ⟨.hbm, 95, rfl⟩
abbrev main_v59 : Ref sig .tc := ⟨.hbm, 96, rfl⟩
abbrev main_v60 : Ref sig .tc := ⟨.hbm, 97, rfl⟩
abbrev main_cst_18 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_19 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_cst_20 : Ref sig .tc := ⟨.hbm, 108, rfl⟩
abbrev main_cst_21 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_v69 : Ref sig .tc := ⟨.hbm, 115, rfl⟩

abbrev nD : Nat := 1
abbrev τ : Topo := Topo.v7x

variable {F : FTy → Type} [FloatOps F]
-- ==== Proof.Spec.lean ====
/-
  What one step of spike-timing-dependent plasticity leaves in its five results, as functions of the argument arrays
  on the extended reals. `Arrays.lean` shows that the kernel computes them, `Plasticity.lean` that the reference does.
-/
module

public import Idealize.ShloMosaic.PureOps.Ideal
public import Idealize.ShloMosaic.Lib.Pointwise

@[expose] public section

noncomputable section

namespace Cert.Stdp

open Idealize.ShloMosaic
open scoped BigOperators

/-- One row of 2048 neurons for each of the 8 samples. -/
abbrev Rows : Shape := ⟨2, ![8, 2048]⟩

/-- One entry for each pair of a presynaptic and a postsynaptic neuron. -/
abbrev Pairs : Shape := ⟨2, ![2048, 2048]⟩

/-- The synaptic current: the spikes of a sample times the weights, summed over the presynaptic neurons. -/
def current (s : Rows.Idx → EReal) (w : Pairs.Idx → EReal) : Rows.Idx → EReal :=
  fun i => ∑ k : Fin 2048, s (ix2 (i 0) k) * w (ix2 k (i 1))

/-- The weight changes: none, for two neurons that spike in one step spike at the same time. -/
def changes : Pairs.Idx → EReal := fun _ => 0

/-- A trace after the step: the old one times the decay of one step, plus the spikes. -/
def trace (old s : Rows.Idx → EReal) : Rows.Idx → EReal :=
  fun i => old i * Ideal.exp (Ideal.ofBits .f32 0xBD4CCCCD#32) + s i

/-- The new weights: the old ones clipped to the interval from 0 to 1. -/
def clipped (w : Pairs.Idx → EReal) : Pairs.Idx → EReal := fun i => min 1 (max 0 (w i))

end Cert.Stdp

end
-- ==== Proof.Arrays.lean ====
/-
  What the kernel computes, at the extended reals: after the run its five result arrays hold the functions of
  `Spec.lean` of the argument arrays. The grid's four points each compute one block of 512 columns, and every block of
  a result is the same part of one function of the whole arrays; the blocks together fill the arrays.
-/
module

public import proofs.«01_k».proof.Proof.Spec
public import proofs.«01_k».proof.Proof.Gen.KernelIdeal.Value
public import Idealize.ShloMosaic.PureOps.Ideal
public import Idealize.ShloMosaic.Lib.Pipeline.Value
public import Idealize.ShloMosaic.Lib.Pointwise

@[expose] public section

noncomputable section

namespace Cert.KernelIdeal.RefValue

open Cert.KernelIdeal Cert.KernelIdeal.Gen Idealize.ShloMosaic Idealize.ShloMosaic.TcCoe Idealize.SL.Sem
open Idealize.ShloMosaic.Pipeline (Dat)

/-! ## What one block computes -/

/-- The constant 0 block. -/
theorem zeros_block (j : S2048x512.Idx) : k0_pay2 (F := Ideal) j = (0 : EReal) := by
  pointwise [k0_pay2]

/-- A block of the new weights. -/
theorem clipped_block (w : FVec Ideal S2048x512 .f32) (j : S2048x512.Idx) :
    k0_pay1 (F := Ideal) w j = (min 1 (max 0 (w j)) : EReal) := by
  pointwise [k0_pay1]

/-- The new presynaptic trace, whole. -/
theorem pre_block (old s : FVec Ideal S8x2048 .f32) (j : S8x2048.Idx) :
    k0_pay3 (F := Ideal) old s j = (old j * Ideal.exp (Ideal.ofBits .f32 0xBD4CCCCD#32) + s j : EReal) := by
  pointwise [k0_pay3]
  rfl

/-- A block of the new postsynaptic trace. -/
theorem post_block (old s : FVec Ideal S8x512 .f32) (j : S8x512.Idx) :
    k0_pay4 (F := Ideal) old s j = (old j * Ideal.exp (Ideal.ofBits .f32 0xBD4CCCCD#32) + s j : EReal) := by
  pointwise [k0_pay4]
  rfl

/-- A block of the current: all the spikes times the block's columns of the weights. -/
theorem current_block (w : FVec Ideal S2048x512 .f32) (s : FVec Ideal S8x2048 .f32) (j : S8x512.Idx) :
    k0_pay5 (F := Ideal) w s j = (∑ k : Fin 2048, s (ix2 (j 0) k) * w (ix2 k (j 1)) : EReal) := by
  pointwise [k0_pay5]

/-! ## What the arrays hold -/

variable (m : (ℓ : Loc nD τ sig) → Buf (Elt Ideal) ℓ) (ρ : Dev nD → PrngReg) (c : Dev nD)

/-- The presynaptic spikes as the launch finds them. -/
abbrev preSpikes : S8x2048.Idx → EReal := m ((c : Thread nD τ).loc main_arg0)
/-- The postsynaptic spikes as the launch finds them. -/
abbrev postSpikes : S8x2048.Idx → EReal := m ((c : Thread nD τ).loc main_arg1)
/-- The weights as the launch finds them. -/
abbrev weights : S2048x2048.Idx → EReal := m ((c : Thread nD τ).loc main_arg2)
/-- The presynaptic trace as the launch finds it. -/
abbrev preTrace : S8x2048.Idx → EReal := m ((c : Thread nD τ).loc main_arg3)
/-- The postsynaptic trace as the launch finds it. -/
abbrev postTrace : S8x2048.Idx → EReal := m ((c : Thread nD τ).loc main_arg4)

/-- The two ways of writing the offset 0 on both axes. -/
theorem hz : (![0, 0] : Fin 2 → Nat) = fun _ => 0 := funext fun a => by fin_cases a <;> rfl

/-- The new weights: what a point writes back is its block of the clipped weights. -/
theorem flushed9_eq (t : Fin cfg0.N) :
    (dats m 0 c).flushed 9 t = ((cfg0.win 9).blk t).view.read (Elt Ideal) (Cert.Stdp.clipped (weights m c)) := by
  rw [Value.flushed9]
  unfold out0_9
  rw [View.canon_unit_zero hz, View.ld_unit_zero hz]
  funext y
  exact (clipped_block _ _).trans rfl

/-- The weight changes: what a point writes back is its block of the zeros. -/
theorem flushed6_eq (t : Fin cfg0.N) :
    (dats m 0 c).flushed 6 t = ((cfg0.win 6).blk t).view.read (Elt Ideal) Cert.Stdp.changes := by
  rw [Value.flushed6]
  unfold out0_6
  rw [View.canon_unit_zero hz]
  funext y
  exact (zeros_block _).trans rfl

/-- The postsynaptic trace: what a point writes back is its block of the new trace. -/
theorem flushed8_eq (t : Fin cfg0.N) :
    (dats m 0 c).flushed 8 t
      = ((cfg0.win 8).blk t).view.read (Elt Ideal) (Cert.Stdp.trace (postTrace m c) (postSpikes m c)) := by
  rw [Value.flushed8]
  unfold out0_8
  rw [View.canon_unit_zero hz, View.ld_unit_zero hz, View.ld_unit_zero hz]
  funext y
  exact (post_block _ _ _).trans rfl

/-- The presynaptic trace: what the last point writes back is the new trace, whole. -/
theorem flushed7_eq (t : Fin cfg0.N) :
    (dats m 0 c).flushed 7 t
      = ((cfg0.win 7).blk t).view.read (Elt Ideal) (Cert.Stdp.trace (preTrace m c) (preSpikes m c)) := by
  show (cfg0.win 7).cut (grid0.coords t) ((dats m 0 c).after 7 t) = _
  rw [after0_7]
  unfold out0_7
  rw [View.canon_unit_zero hz, View.ld_unit_zero hz, View.ld_unit_zero hz]
  funext y
  exact (pre_block _ _ _).trans rfl

/-- Which block each point reads of the spikes and the weights and writes of the current: of the spikes always the one
    that is the whole array, of the weights the one of the same columns as of the current. -/
theorem index_zero (t : Fin cfg0.N) :
    win0_0.index t 0 = 0 ∧ win0_0.index t 1 = 0 ∧ win0_5.index t 0 = 0 ∧ win0_2.index t 0 = 0
      ∧ win0_2.index t 1 = win0_5.index t 1 := by
  rcases fin_N0 t with rfl | rfl | rfl | rfl <;> decide +kernel

/-- The current: what a point writes back is its block of the product, whose entry at a sample and a neuron sums over
    the sample's whole row of spikes and the neuron's whole column of weights, both in the point's blocks. -/
theorem flushed5_eq (t : Fin cfg0.N) :
    (dats m 0 c).flushed 5 t
      = ((cfg0.win 5).blk t).view.read (Elt Ideal) (Cert.Stdp.current (preSpikes m c) (weights m c)) := by
  rw [Value.flushed5]
  unfold out0_5
  rw [View.canon_unit_zero hz, View.ld_unit_zero hz, View.ld_unit_zero hz]
  funext y
  refine (current_block _ _ _).trans ?_
  obtain ⟨h00, h01, h50, h20, h21⟩ := index_zero t
  show (∑ k : Fin 2048, preSpikes m c ((win0_0.rect t).emb (ix2 (y 0) k)) * weights m c ((win0_2.rect t).emb (ix2 k (y 1))) : EReal)
    = ∑ k : Fin 2048, preSpikes m c (ix2 ((win0_5.rect t).emb y 0) k) * weights m c (ix2 k ((win0_5.rect t).emb y 1))
  refine Finset.sum_congr rfl fun k _ => ?_
  congr 2
  · apply Shape.idx_ext₂
    · rw [win0_0.rect_emb_val_of_index_zero t 0 h00]
      exact (win0_5.rect_emb_val_of_index_zero t 0 h50 y).symm
    · rw [win0_0.rect_emb_val_of_index_zero t 1 h01]; rfl
  · apply Shape.idx_ext₂
    · rw [win0_2.rect_emb_val_of_index_zero t 0 h20]; rfl
    · rw [win0_2.rect_emb_val t _ 1, h21]
      exact (win0_5.rect_emb_val t y 1).symm

/-! ## The blocks fill the arrays -/

/-- The blocks of the current: at point `t` all the samples and the columns from `512 t` on. -/
theorem mem_blk5 (t : Fin cfg0.N) (i : S8x2048.Idx) (h : t.val * 512 ≤ (i 1 : Nat)) (h' : (i 1 : Nat) < t.val * 512 + 512) :
    i ∈ ((cfg0.win 5).blk t).view.set := by
  show i ∈ ((View.whole main_v0_0).slice (win0_5.rect t)).set
  rw [View.set_slice_whole, Rect.mem_set_unit]
  have e : win0_5.index t 0 * win0_5.size 0 = 0 ∧ win0_5.xsize (grid0.coords t) 0 = 8
      ∧ win0_5.index t 1 * win0_5.size 1 = t.val * 512 ∧ win0_5.xsize (grid0.coords t) 1 = 512 := by
    rcases fin_N0 t with rfl | rfl | rfl | rfl <;> decide +kernel
  intro a
  match a with
  | ⟨0, _⟩ =>
    show win0_5.index t 0 * win0_5.size 0 ≤ (i 0 : Nat) ∧ (i 0 : Nat) < win0_5.index t 0 * win0_5.size 0 + win0_5.xsize (grid0.coords t) 0
    have h0 : (i 0 : Nat) < 8 := (i 0).isLt
    rw [e.1, e.2.1]; omega
  | ⟨1, _⟩ =>
    show win0_5.index t 1 * win0_5.size 1 ≤ (i 1 : Nat) ∧ (i 1 : Nat) < win0_5.index t 1 * win0_5.size 1 + win0_5.xsize (grid0.coords t) 1
    rw [e.2.2.1, e.2.2.2]; exact ⟨h, h'⟩

/-- The blocks of the weight changes: at point `t` all the rows and the columns from `512 t` on. -/
theorem mem_blk6 (t : Fin cfg0.N) (i : S2048x2048.Idx) (h : t.val * 512 ≤ (i 1 : Nat)) (h' : (i 1 : Nat) < t.val * 512 + 512) :
    i ∈ ((cfg0.win 6).blk t).view.set := by
  show i ∈ ((View.whole main_v0_1).slice (win0_6.rect t)).set
  rw [View.set_slice_whole, Rect.mem_set_unit]
  have e : win0_6.index t 0 * win0_6.size 0 = 0 ∧ win0_6.xsize (grid0.coords t) 0 = 2048
      ∧ win0_6.index t 1 * win0_6.size 1 = t.val * 512 ∧ win0_6.xsize (grid0.coords t) 1 = 512 := by
    rcases fin_N0 t with rfl | rfl | rfl | rfl <;> decide +kernel
  intro a
  match a with
  | ⟨0, _⟩ =>
    show win0_6.index t 0 * win0_6.size 0 ≤ (i 0 : Nat) ∧ (i 0 : Nat) < win0_6.index t 0 * win0_6.size 0 + win0_6.xsize (grid0.coords t) 0
    have h0 : (i 0 : Nat) < 2048 := (i 0).isLt
    rw [e.1, e.2.1]; omega
  | ⟨1, _⟩ =>
    show win0_6.index t 1 * win0_6.size 1 ≤ (i 1 : Nat) ∧ (i 1 : Nat) < win0_6.index t 1 * win0_6.size 1 + win0_6.xsize (grid0.coords t) 1
    rw [e.2.2.1, e.2.2.2]; exact ⟨h, h'⟩

/-- The blocks of the postsynaptic trace, as those of the current. -/
theorem mem_blk8 (t : Fin cfg0.N) (i : S8x2048.Idx) (h : t.val * 512 ≤ (i 1 : Nat)) (h' : (i 1 : Nat) < t.val * 512 + 512) :
    i ∈ ((cfg0.win 8).blk t).view.set := by
  show i ∈ ((View.whole main_v0_3).slice (win0_8.rect t)).set
  rw [View.set_slice_whole, Rect.mem_set_unit]
  have e : win0_8.index t 0 * win0_8.size 0 = 0 ∧ win0_8.xsize (grid0.coords t) 0 = 8
      ∧ win0_8.index t 1 * win0_8.size 1 = t.val * 512 ∧ win0_8.xsize (grid0.coords t) 1 = 512 := by
    rcases fin_N0 t with rfl | rfl | rfl | rfl <;> decide +kernel
  intro a
  match a with
  | ⟨0, _⟩ =>
    show win0_8.index t 0 * win0_8.size 0 ≤ (i 0 : Nat) ∧ (i 0 : Nat) < win0_8.index t 0 * win0_8.size 0 + win0_8.xsize (grid0.coords t) 0
    have h0 : (i 0 : Nat) < 8 := (i 0).isLt
    rw [e.1, e.2.1]; omega
  | ⟨1, _⟩ =>
    show win0_8.index t 1 * win0_8.size 1 ≤ (i 1 : Nat) ∧ (i 1 : Nat) < win0_8.index t 1 * win0_8.size 1 + win0_8.xsize (grid0.coords t) 1
    rw [e.2.2.1, e.2.2.2]; exact ⟨h, h'⟩

/-- The blocks of the new weights, as those of the weight changes. -/
theorem mem_blk9 (t : Fin cfg0.N) (i : S2048x2048.Idx) (h : t.val * 512 ≤ (i 1 : Nat)) (h' : (i 1 : Nat) < t.val * 512 + 512) :
    i ∈ ((cfg0.win 9).blk t).view.set := by
  show i ∈ ((View.whole main_v0_4).slice (win0_9.rect t)).set
  rw [View.set_slice_whole, Rect.mem_set_unit]
  have e : win0_9.index t 0 * win0_9.size 0 = 0 ∧ win0_9.xsize (grid0.coords t) 0 = 2048
      ∧ win0_9.index t 1 * win0_9.size 1 = t.val * 512 ∧ win0_9.xsize (grid0.coords t) 1 = 512 := by
    rcases fin_N0 t with rfl | rfl | rfl | rfl <;> decide +kernel
  intro a
  match a with
  | ⟨0, _⟩ =>
    show win0_9.index t 0 * win0_9.size 0 ≤ (i 0 : Nat) ∧ (i 0 : Nat) < win0_9.index t 0 * win0_9.size 0 + win0_9.xsize (grid0.coords t) 0
    have h0 : (i 0 : Nat) < 2048 := (i 0).isLt
    rw [e.1, e.2.1]; omega
  | ⟨1, _⟩ =>
    show win0_9.index t 1 * win0_9.size 1 ≤ (i 1 : Nat) ∧ (i 1 : Nat) < win0_9.index t 1 * win0_9.size 1 + win0_9.xsize (grid0.coords t) 1
    rw [e.2.2.1, e.2.2.2]; exact ⟨h, h'⟩

/-- The block of the presynaptic trace is the whole array, at every point. -/
theorem mem_blk7 (t : Fin cfg0.N) (i : S8x2048.Idx) : i ∈ ((cfg0.win 7).blk t).view.set := by
  show i ∈ ((View.whole main_v0_2).slice (win0_7.rect t)).set
  rw [View.set_slice_whole, Rect.mem_set_unit]
  have e : win0_7.index t 0 * win0_7.size 0 = 0 ∧ win0_7.xsize (grid0.coords t) 0 = 8
      ∧ win0_7.index t 1 * win0_7.size 1 = 0 ∧ win0_7.xsize (grid0.coords t) 1 = 2048 := by
    rcases fin_N0 t with rfl | rfl | rfl | rfl <;> decide +kernel
  intro a
  match a with
  | ⟨0, _⟩ =>
    show win0_7.index t 0 * win0_7.size 0 ≤ (i 0 : Nat) ∧ (i 0 : Nat) < win0_7.index t 0 * win0_7.size 0 + win0_7.xsize (grid0.coords t) 0
    have h0 : (i 0 : Nat) < 8 := (i 0).isLt
    rw [e.1, e.2.1]; omega
  | ⟨1, _⟩ =>
    show win0_7.index t 1 * win0_7.size 1 ≤ (i 1 : Nat) ∧ (i 1 : Nat) < win0_7.index t 1 * win0_7.size 1 + win0_7.xsize (grid0.coords t) 1
    have h1 : (i 1 : Nat) < 2048 := (i 1).isLt
    rw [e.2.2.1, e.2.2.2]; omega

/-- The point whose block holds a column below 2048. -/
theorem point_of_column (n : Nat) (h : n < 2048) :
    ∃ t : Fin cfg0.N, t.val * 512 ≤ n ∧ n < t.val * 512 + 512 := by
  have hN : cfg0.N = 4 := N_0
  exact ⟨⟨n / 512, by omega⟩, by dsimp only; omega, by dsimp only; omega⟩

/-! ## The arrays after the run -/

/-- The first result is the synaptic current. -/
theorem final5 : (dats m 0 c).arrAt 5 cfg0.N = Cert.Stdp.current (preSpikes m c) (weights m c) :=
  (dats m 0 c).arrAt_eq_of_cover 5 _ (fun t _ => flushed5_eq m c t) fun i =>
    have ⟨t, h, h'⟩ := point_of_column (i 1 : Nat) (i 1).isLt
    ⟨t, flush0_5 t, mem_blk5 t i h h'⟩

/-- The second result is the weight changes, all zero. -/
theorem final6 : (dats m 0 c).arrAt 6 cfg0.N = Cert.Stdp.changes :=
  (dats m 0 c).arrAt_eq_of_cover 6 _ (fun t _ => flushed6_eq m c t) fun i =>
    have ⟨t, h, h'⟩ := point_of_column (i 1 : Nat) (i 1).isLt
    ⟨t, flush0_6 t, mem_blk6 t i h h'⟩

/-- The third result is the new presynaptic trace. -/
theorem final7 : (dats m 0 c).arrAt 7 cfg0.N = Cert.Stdp.trace (preTrace m c) (preSpikes m c) :=
  (dats m 0 c).arrAt_eq_of_cover 7 _ (fun t _ => flushed7_eq m c t) fun i =>
    ⟨t0_3, (flush0_7 t0_3).mpr rfl, mem_blk7 t0_3 i⟩

/-- The fourth result is the new postsynaptic trace. -/
theorem final8 : (dats m 0 c).arrAt 8 cfg0.N = Cert.Stdp.trace (postTrace m c) (postSpikes m c) :=
  (dats m 0 c).arrAt_eq_of_cover 8 _ (fun t _ => flushed8_eq m c t) fun i =>
    have ⟨t, h, h'⟩ := point_of_column (i 1 : Nat) (i 1).isLt
    ⟨t, flush0_8 t, mem_blk8 t i h h'⟩

/-- The fifth result is the clipped weights. -/
theorem final9 : (dats m 0 c).arrAt 9 cfg0.N = Cert.Stdp.clipped (weights m c) :=
  (dats m 0 c).arrAt_eq_of_cover 9 _ (fun t _ => flushed9_eq m c t) fun i =>
    have ⟨t, h, h'⟩ := point_of_column (i 1 : Nat) (i 1).isLt
    ⟨t, flush0_9 t, mem_blk9 t i h h'⟩

end Cert.KernelIdeal.RefValue

end
-- ==== Proof.Plasticity.lean ====
/-
  What the reference computes, at the extended reals: its five results are the functions of `Spec.lean`. The one that
  needs an argument is the weight changes. A pair of neurons counts only if both spike in this step; then both have
  this step's time as the time of their last spike, the difference of the two is 0, and neither the potentiation, which
  asks for a difference above 0, nor the depression, which asks for one below 0, takes place.
-/
module

public import proofs.«01_k».proof.Proof.Spec
public import proofs.«01_k».proof.Proof.Gen.ReferenceIdeal.Run
public import Idealize.ShloMosaic.PureOps.Ideal
public import Idealize.ShloMosaic.Lib.Pointwise
public import Idealize.ShloMosaic.Lib.Tactic.CleanTypes

@[expose] public section

noncomputable section

namespace Cert.ReferenceIdeal.RefValue

open Cert.ReferenceIdeal Cert.ReferenceIdeal.Gen Idealize.ShloMosaic Idealize.ShloMosaic.TcCoe

/-! ## One pair of neurons -/

/-- An integer read as an extended real is finite: less itself it is 0. -/
theorem time_sub_self (t : BitVec 32) :
    (FloatOps.sitofp (F := Ideal) .f32 t : EReal) - (FloatOps.sitofp (F := Ideal) .f32 t : EReal) = 0 := by
  show (((t.toInt : ℝ) : EReal)) - (((t.toInt : ℝ) : EReal)) = 0
  rw [← EReal.coe_sub, sub_self, EReal.coe_zero]

/-- If two neurons spike at one time, neither spiked after the other: the condition for potentiation is false
    whatever the neurons and the bound on the difference of the times. -/
theorem potentiation_mask (a b p q : EReal) (t : BitVec 32) (e : BitVec 1) :
    IntOp.andi (IntOp.andi (IntOp.andi (BitVec.ofBool (decide (0 < a))) (BitVec.ofBool (decide (0 < b))))
      (BitVec.ofBool (decide (0 < (if 0 < b then (FloatOps.sitofp (F := Ideal) .f32 t : EReal) else q)
        - (if 0 < a then (FloatOps.sitofp (F := Ideal) .f32 t : EReal) else p))))) e = 0#1 := by
  by_cases ha : 0 < a <;> by_cases hb : 0 < b <;> simp [ha, hb, time_sub_self, IntOp.andi]

/-- The condition for depression likewise: the difference of the times taken the other way is 0 too. -/
theorem depression_mask (a b p q : EReal) (t : BitVec 32) (e : BitVec 1) :
    IntOp.andi (IntOp.andi (IntOp.andi (BitVec.ofBool (decide (0 < a))) (BitVec.ofBool (decide (0 < b))))
      (BitVec.ofBool (decide (0 < -((if 0 < b then (FloatOps.sitofp (F := Ideal) .f32 t : EReal) else q)
        - (if 0 < a then (FloatOps.sitofp (F := Ideal) .f32 t : EReal) else p)))))) e = 0#1 := by
  by_cases ha : 0 < a <;> by_cases hb : 0 < b <;> simp [ha, hb, time_sub_self, IntOp.andi]

/-- The literal by which the mean over the samples divides is not 0, so the mean of zeros is 0. -/
theorem zero_div_samples : Ideal.div 0 (Ideal.ofBits .f32 0x41000000#32) = 0 := by
  have h : Ideal.ofBits .f32 0x41000000#32 = ((8 : ℝ) : EReal) := by
    simp [Ideal.ofBits, Ideal.ieee, -EReal.coe_mul]; norm_num
  rw [h, Ideal.div, if_neg (by norm_num [← EReal.coe_zero, EReal.coe_eq_coe_iff]), zero_mul]

/-- Where a condition is false, the second of two values is taken. -/
theorem select_false {α : Type} (x y : α) : Scalar.select (0#1) x y = y := rfl

/-- The literal 0 of the selects and of the clip, read at its one index. -/
theorem zero_literal : id (constant (F := Ideal) S_ .f32 0x00000000#32) ix0 = (0 : EReal) :=
  Ideal.ofBits_zero_f32

/-- The literal 1 of the clip, read at its one index. -/
theorem one_literal : id (constant (F := Ideal) S_ .f32 0x3F800000#32) ix0 = (1 : EReal) :=
  Ideal.ofBits_one_f32

/-! ## The results -/

variable (m : (ℓ : Loc nD τ sig) → Buf (Elt Ideal) ℓ) (c : Dev nD)

set_option maxHeartbeats 4000000 in
/-- The weight changes are zero. -/
theorem changes_eq : Value.res_main_v58 m c = (Cert.Stdp.changes : S2048x2048.Idx → EReal) := by
  funext j
  unfold Value.res_main_v58
  clean_types
  pointwise
  simp only [potentiation_mask, depression_mask, select_false, zero_literal, add_zero, Finset.sum_const_zero,
    zero_div_samples]
  rfl

set_option maxHeartbeats 4000000 in
/-- The new weights are the old ones clipped. -/
theorem clipped_eq : Value.res_main_v69 m c = (Cert.Stdp.clipped (m ((c.tc : Thread nD τ).loc main_arg2)) : S2048x2048.Idx → EReal) := by
  funext j
  unfold Value.res_main_v69
  clean_types
  pointwise
  simp only [potentiation_mask, depression_mask, select_false, zero_literal, one_literal, add_zero, Finset.sum_const_zero,
    zero_div_samples, zero_mul, ite_self]
  rfl

/-- The synaptic current is the product of the spikes and the weights. -/
theorem current_eq (s : FVec Ideal S8x2048 .f32) (w : FVec Ideal S2048x2048 .f32) :
    Host.dotGeneral dot_S8x2048_S2048x2048_S8x2048_1_0_0_1_n_n none s w = Cert.Stdp.current s w := by
  funext j
  pointwise [Cert.Stdp.current]

/-- A new trace is the old one decayed, plus the spikes. -/
theorem trace_eq (old s : FVec Ideal S8x2048 .f32) :
    addf (mulf old (broadcastInDim S8x2048 ![] bcast_S_S8x2048 (Host.exp (constant S_ .f32 0xBD4CCCCD#32)))) s
      = Cert.Stdp.trace old s := by
  funext j
  pointwise [Cert.Stdp.trace]

end Cert.ReferenceIdeal.RefValue

end
-- ==== Proof.lean ====
/-
  The proof of `Cert.Claim` (Defs.lean): the kernel and the reference run to the end and leave their arguments as they
  were and every semaphore at zero, the kernel read at the extended reals is the kernel's own text, and there its five
  results are the reference's. `Arrays.lean` says what the kernel's result arrays hold, `Plasticity.lean` what the
  reference's do, both as the functions of `Spec.lean`; here the two are put side by side.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Spec
public import proofs.«01_k».proof.Proof.Arrays
public import proofs.«01_k».proof.Proof.Plasticity
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs to the end on the chip's words, leaves its arguments as they were and every semaphore at zero. -/
theorem frame_kernel : Cert.quiescent_Kernel := fun m ρ _ => Cert.Kernel.Gen.frame m ρ

/-- So does the kernel read at the extended reals. -/
theorem frame_kernelIdeal : Cert.quiescent_KernelIdeal := fun m ρ _ => Cert.KernelIdeal.Gen.frame m ρ

/-- So does the reference read at the extended reals; it declares no semaphore. -/
theorem frame_referenceIdeal : Cert.quiescent_ReferenceIdeal := fun m ρ _ =>
  (θ_run Cert.ReferenceIdeal.defs _ _).mono
    (fun r h => ⟨fun c => (h c).2.2.2.2.2, Idealize.ShloMosaic.sem_eq_zero_of_no_sems (by decide) r.2⟩)
    (Cert.ReferenceIdeal.Value.run (F := Ideal) m ρ)

/-- No operation of the kernel was rewritten between the two readings. -/
theorem preserves : Cert.preserves_Kernel_KernelIdeal := trivial

/-- At the extended reals the kernel's five results are the reference's, for all arguments: both are the functions of
    `Spec.lean`. -/
theorem algebraic : Cert.algebraic_KernelIdeal_ReferenceIdeal := by
  intro m ρ m' ρ' _ hagree
  refine ⟨fun c => Cert.Stdp.current (Cert.KernelIdeal.RefValue.preSpikes m c) (Cert.KernelIdeal.RefValue.weights m c),
    fun _ => Cert.Stdp.changes,
    fun c => Cert.Stdp.trace (Cert.KernelIdeal.RefValue.preTrace m c) (Cert.KernelIdeal.RefValue.preSpikes m c),
    fun c => Cert.Stdp.trace (Cert.KernelIdeal.RefValue.postTrace m c) (Cert.KernelIdeal.RefValue.postSpikes m c),
    fun c => Cert.Stdp.clipped (Cert.KernelIdeal.RefValue.weights m c), ?_, ?_⟩
  · exact (θ_run Cert.KernelIdeal.defs _ _).mono
      (fun _ h c => ⟨(h c).1.trans (Cert.KernelIdeal.RefValue.final5 m c),
        (h c).2.1.trans (Cert.KernelIdeal.RefValue.final6 m c),
        (h c).2.2.1.trans (Cert.KernelIdeal.RefValue.final7 m c),
        (h c).2.2.2.1.trans (Cert.KernelIdeal.RefValue.final8 m c),
        (h c).2.2.2.2.1.trans (Cert.KernelIdeal.RefValue.final9 m c), (h c).2.2.2.2.2⟩)
      (Cert.KernelIdeal.Value.run_blocks (F := Ideal) m ρ)
  · refine (θ_run Cert.ReferenceIdeal.defs _ _).mono (fun _ h c => ?_)
      (Cert.ReferenceIdeal.Value.run (F := Ideal) m' ρ')
    obtain ⟨a0, a1, a2, a3, a4, -, -, -⟩ := hagree c
    obtain ⟨h0, h1, h2, h3, h4, hargs⟩ := h c
    refine ⟨?_, h1.trans (Cert.ReferenceIdeal.RefValue.changes_eq m' c), ?_, ?_, ?_, hargs⟩
    · exact h0.trans ((Cert.ReferenceIdeal.RefValue.current_eq _ _).trans (congrArg₂ Cert.Stdp.current a0 a2))
    · exact h2.trans ((Cert.ReferenceIdeal.RefValue.trace_eq _ _).trans (congrArg₂ Cert.Stdp.trace a3 a0))
    · exact h3.trans ((Cert.ReferenceIdeal.RefValue.trace_eq _ _).trans (congrArg₂ Cert.Stdp.trace a4 a1))
    · exact h4.trans ((Cert.ReferenceIdeal.RefValue.clipped_eq m' c).trans (congrArg Cert.Stdp.clipped a2))

/-- The certificate: the three programs' frames, the idealization, and the equation of the kernel and the reference. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
